-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_infinite_logit [hPre_no_infinite_logit : Cert.Pre_no_infinite_logit.Facts] (m : (ℓ : Loc Cert.KernelIdeal.nD Cert.KernelIdeal.τ Cert.KernelIdeal.sig) → Buf (Elt Ideal) ℓ) : Prop :=
  ∀ c : Dev Cert.KernelIdeal.nD,
    (Cert.Pre_no_infinite_logit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_infinite_logit [hPre_no_infinite_logit : Cert.Pre_no_infinite_logit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_infinite_logit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_no_infinite_logit [hKernelIdeal : Cert.KernelIdeal.Facts] [hPre_no_infinite_logit : Cert.Pre_no_infinite_logit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_infinite_logit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_infinite_logit [hReferenceIdeal : Cert.ReferenceIdeal.Facts] [hPre_no_infinite_logit : Cert.Pre_no_infinite_logit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_infinite_logit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_no_infinite_logit [hKernelIdeal : Cert.KernelIdeal.Facts] [hReferenceIdeal : Cert.ReferenceIdeal.Facts] [hPre_no_infinite_logit : Cert.Pre_no_infinite_logit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_infinite_logit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_no_infinite_logit : Cert.Pre_no_infinite_logit.Facts),
    quiescent_Kernel (hKernel := hKernel)
    ∧ quiescent_KernelIdeal (hKernelIdeal := hKernelIdeal)
    ∧ quiescent_KernelIdeal_pre_no_infinite_logit (hKernelIdeal := hKernelIdeal) (hPre_no_infinite_logit := hPre_no_infinite_logit)
    ∧ quiescent_ReferenceIdeal (hReferenceIdeal := hReferenceIdeal)
    ∧ quiescent_ReferenceIdeal_pre_no_infinite_logit (hReferenceIdeal := hReferenceIdeal) (hPre_no_infinite_logit := hPre_no_infinite_logit)
    ∧ preserves_Kernel_KernelIdeal
    ∧ algebraic_KernelIdeal_ReferenceIdeal_pre_no_infinite_logit (hKernelIdeal := hKernelIdeal) (hReferenceIdeal := hReferenceIdeal) (hPre_no_infinite_logit := hPre_no_infinite_logit)
-- ==== Pre_no_infinite_logit.lean ====
abbrev S16x20000x92 : Shape := ⟨3, ![16, 20000, 92]⟩
abbrev S16x20000x4 : Shape := ⟨3, ![16, 20000, 4]⟩
abbrev S16x2 : Shape := ⟨2, ![16, 2]⟩
abbrev S_ : Shape := ⟨0, ![]⟩

class Facts : Prop where
  bcast_S_S16x20000x92 : S_.BroadcastsInDim S16x20000x92 (![] : Fin 0 → Fin S16x20000x92.rank)
  reducesTo_S16x20000x92_S_d0_1_2 : S16x20000x92.ReducesTo [0, 1, 2] S_
  h_S_ : 0 < S_.numel

variable [Facts]

def fn {F : FTy → Type} [FloatOps F] (main_arg0 : FVec F S16x20000x92 .f32) (main_arg1 : FVec F S16x20000x4 .f32) (main_arg2 : IVec S16x2 32) : IVec S_ 1 :=
  let main_cst : FVec F S_ .f32 := constant S_ .f32 0x7F800000#32
  let main_v0 : FVec F S16x20000x92 .f32 := broadcastInDim S16x20000x92 ![] bcast_S_S16x20000x92 main_cst
  let main_v1 : IVec S16x20000x92 1 := cmpf .olt main_arg0 main_v0
  let main_c : IVec S_ 1 := constantI S_ 1 1#1
  let main_v2 : IVec S_ 1 := (fun x v => Host.reduce IntOp.andi x v reducesTo_S16x20000x92_S_d0_1_2 h_S_) main_v1 main_c
  main_v2
-- ==== Kernel.lean ====
abbrev S16x20000x92 : Shape := ⟨3, ![16, 20000, 92]⟩
abbrev S16x20000x4 : Shape := ⟨3, ![16, 20000, 4]⟩
abbrev S16x2 : Shape := ⟨2, ![16, 2]⟩
abbrev S16x1 : Shape := ⟨2, ![16, 1]⟩
abbrev S16 : Shape := ⟨1, ![16]⟩
abbrev S16x4 : Shape := ⟨2, ![16, 4]⟩
abbrev S16x1x4 : Shape := ⟨3, ![16, 1, 4]⟩
abbrev S16x20000x1 : Shape := ⟨3, ![16, 20000, 1]⟩
abbrev S1x2000x92 : Shape := ⟨3, ![1, 2000, 92]⟩
abbrev S1x2000x4 : Shape := ⟨3, ![1, 2000, 4]⟩
abbrev S1x1x4 : Shape := ⟨3, ![1, 1, 4]⟩
abbrev S1x2000x1 : Shape := ⟨3, ![1, 2000, 1]⟩
abbrev S2000x92 : Shape := ⟨2, ![2000, 92]⟩
abbrev S2000 : Shape := ⟨1, ![2000]⟩
abbrev S2000x1 : Shape := ⟨2, ![2000, 1]⟩
abbrev S2000x4 : Shape := ⟨2, ![2000, 4]⟩
abbrev S1x4 : Shape := ⟨2, ![1, 4]⟩
abbrev S16x20000 : Shape := ⟨2, ![16, 20000]⟩

abbrev nBuf : Space → Nat
  | .hbm => 19
  | .vmem => 12
  | .smem => 0
  | _ => 0

abbrev bufTy : (tb : Table) → Fin (tcTables nBuf tb) → BufTy
  | .hbm, ⟨0, _⟩ => ⟨S16x20000x92, .f32⟩
  | .hbm, ⟨1, _⟩ => ⟨S16x20000x4, .f32⟩
  | .hbm, ⟨2, _⟩ => ⟨S16x2, .i32⟩
  | .hbm, ⟨3, _⟩ => ⟨S16x2, .f32⟩
  | .hbm, ⟨4, _⟩ => ⟨S16x1, .f32⟩
  | .hbm, ⟨5, _⟩ => ⟨S16, .f32⟩
  | .hbm, ⟨6, _⟩ => ⟨S16x1, .f32⟩
  | .hbm, ⟨7, _⟩ => ⟨S16, .f32⟩
  | .hbm, ⟨8, _⟩ => ⟨S16x1, .f32⟩
  | .hbm, ⟨9, _⟩ => ⟨S16x1, .f32⟩
  | .hbm, ⟨10, _⟩ => ⟨S16x1, .f32⟩
  | .hbm, ⟨11, _⟩ => ⟨S16x1, .f32⟩
  | .hbm, ⟨12, _⟩ => ⟨S16x4, .f32⟩
  | .hbm, ⟨13, _⟩ => ⟨S16x1x4, .f32⟩
  | .hbm, ⟨14, _⟩ => ⟨S16x20000x1, .f32⟩
  | .hbm, ⟨15, _⟩ => ⟨S16x20000x1, .i32⟩
  | .hbm, ⟨16, _⟩ => ⟨S16x20000x4, .f32⟩
  | .hbm, ⟨17, _⟩ => ⟨S16x20000, .f32⟩
  | .hbm, ⟨18, _⟩ => ⟨S16x20000, .i32⟩
  | .local _ .vmem, ⟨0, _⟩ => ⟨S1x2000x92, .f32⟩
  | .local _ .vmem, ⟨1, _⟩ => ⟨S1x2000x92, .f32⟩
  | .local _ .vmem, ⟨2, _⟩ => ⟨S1x2000x4, .f32⟩
  | .local _ .vmem, ⟨3, _⟩ => ⟨S1x2000x4, .f32⟩
  | .local _ .vmem, ⟨4, _⟩ => ⟨S1x1x4, .f32⟩
  | .local _ .vmem, ⟨5, _⟩ => ⟨S1x1x4, .f32⟩
  | .local _ .vmem, ⟨6, _⟩ => ⟨S1x2000x1, .f32⟩
  | .local _ .vmem, ⟨7, _⟩ => ⟨S1x2000x1, .f32⟩
  | .local _ .vmem, ⟨8, _⟩ => ⟨S1x2000x1, .i32⟩
  | .local _ .vmem, ⟨9, _⟩ => ⟨S1x2000x1, .i32⟩
  | .local _ .vmem, ⟨10, _⟩ => ⟨S1x2000x4, .f32⟩
  | .local _ .vmem, ⟨11, _⟩ => ⟨S1x2000x4, .f32⟩
  | _, _ => ⟨S16x20000x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v11_2 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x92 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2000x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2000x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x20000x92 : Shape := ⟨3, ![16, 20000, 92]⟩
abbrev S16x20000x4 : Shape := ⟨3, ![16, 20000, 4]⟩
abbrev S16x2 : Shape := ⟨2, ![16, 2]⟩
abbrev S_ : Shape := ⟨0, ![]⟩
abbrev S16x20000 : Shape := ⟨2, ![16, 20000]⟩
abbrev S16x20000x1 : Shape := ⟨3, ![16, 20000, 1]⟩
abbrev S16x20000x91 : Shape := ⟨3, ![16, 20000, 91]⟩
abbrev S16x1 : Shape := ⟨2, ![16, 1]⟩
abbrev S16 : Shape := ⟨1, ![16]⟩
abbrev S16x4 : Shape := ⟨2, ![16, 4]⟩
abbrev S16x1x4 : Shape := ⟨3, ![16, 1, 4]⟩

abbrev nBuf : Space → Nat
  | .hbm => 69
  | .vmem => 0
  | .smem => 0
  | _ => 0

abbrev bufTy : (tb : Table) → Fin (tcTables nBuf tb) → BufTy
  | .hbm, ⟨0, _⟩ => ⟨S16x20000x92, .f32⟩
  | .hbm, ⟨1, _⟩ => ⟨S16x20000x4, .f32⟩
  | .hbm, ⟨2, _⟩ => ⟨S16x2, .i32⟩
  | .hbm, ⟨3, _⟩ => ⟨S_, .f32⟩
  | .hbm, ⟨4, _⟩ => ⟨S16x20000, .f32⟩
  | .hbm, ⟨5, _⟩ => ⟨S_, .f32⟩
  | .hbm, ⟨6, _⟩ => ⟨S16x20000, .f32⟩
  | .hbm, ⟨7, _⟩ => ⟨S16x20000, .f32⟩
  | .hbm, ⟨8, _⟩ => ⟨S16x20000x1, .f32⟩
  | .hbm, ⟨9, _⟩ => ⟨S16x20000x92, .f32⟩
  | .hbm, ⟨10, _⟩ => ⟨S16x20000x92, .f32⟩
  | .hbm, ⟨11, _⟩ => ⟨S16x20000x92, .f32⟩
  | .hbm, ⟨12, _⟩ => ⟨S_, .f32⟩
  | .hbm, ⟨13, _⟩ => ⟨S16x20000, .f32⟩
  | .hbm, ⟨14, _⟩ => ⟨S16x20000x1, .f32⟩
  | .hbm, ⟨15, _⟩ => ⟨S16x20000x92, .f32⟩
  | .hbm, ⟨16, _⟩ => ⟨S16x20000x92, .f32⟩
  | .hbm, ⟨17, _⟩ => ⟨S16x20000x91, .f32⟩
  | .hbm, ⟨18, _⟩ => ⟨S_, .f32⟩
  | .hbm, ⟨19, _⟩ => ⟨S16x20000, .f32⟩
  | .hbm, ⟨20, _⟩ => ⟨S16x20000x91, .f32⟩
  | .hbm, ⟨21, _⟩ => ⟨S16x20000x91, .i32⟩
  | .hbm, ⟨22, _⟩ => ⟨S_, .f32⟩
  | .hbm, ⟨23, _⟩ => ⟨S_, .i32⟩
  | .hbm, ⟨24, _⟩ => ⟨S16x20000, .f32⟩
  | .hbm, ⟨25, _⟩ => ⟨S16x20000, .i32⟩
  | .hbm, ⟨26, _⟩ => ⟨S16x20000x1, .f32⟩
  | .hbm, ⟨27, _⟩ => ⟨S16x20000, .f32⟩
  | .hbm, ⟨28, _⟩ => ⟨S16x20000x1, .f32⟩
  | .hbm, ⟨29, _⟩ => ⟨S16x20000, .f32⟩
  | .hbm, ⟨30, _⟩ => ⟨S16x20000x1, .f32⟩
  | .hbm, ⟨31, _⟩ => ⟨S16x20000, .f32⟩
  | .hbm, ⟨32, _⟩ => ⟨S16x20000x1, .f32⟩
  | .hbm, ⟨33, _⟩ => ⟨S16x20000, .f32⟩
  | .hbm, ⟨34, _⟩ => ⟨S_, .f32⟩
  | .hbm, ⟨35, _⟩ => ⟨S16x20000, .f32⟩
  | .hbm, ⟨36, _⟩ => ⟨S16x20000, .f32⟩
  | .hbm, ⟨37, _⟩ => ⟨S16x20000, .f32⟩
  | .hbm, ⟨38, _⟩ => ⟨S_, .f32⟩
  | .hbm, ⟨39, _⟩ => ⟨S16x20000, .f32⟩
  | .hbm, ⟨40, _⟩ => ⟨S16x20000, .f32⟩
  | .hbm, ⟨41, _⟩ => ⟨S16x20000, .f32⟩
  | .hbm, ⟨42, _⟩ => ⟨S_, .f32⟩
  | .hbm, ⟨43, _⟩ => ⟨S16x20000, .f32⟩
  | .hbm, ⟨44, _⟩ => ⟨S16x20000, .f32⟩
  | .hbm, ⟨45, _⟩ => ⟨S16x20000, .f32⟩
  | .hbm, ⟨46, _⟩ => ⟨S_, .f32⟩
  | .hbm, ⟨47, _⟩ => ⟨S16x20000, .f32⟩
  | .hbm, ⟨48, _⟩ => ⟨S16x20000, .f32⟩
  | .hbm, ⟨49, _⟩ => ⟨S16x20000, .f32⟩
  | .hbm, ⟨50, _⟩ => ⟨S16x20000x1, .f32⟩
  | .hbm, ⟨51, _⟩ => ⟨S16x20000x1, .f32⟩
  | .hbm, ⟨52, _⟩ => ⟨S16x20000x1, .f32⟩
  | .hbm, ⟨53, _⟩ => ⟨S16x20000x1, .f32⟩
  | .hbm, ⟨54, _⟩ => ⟨S16x20000x4, .f32⟩
  | .hbm, ⟨55, _⟩ => ⟨S16x1, .i32⟩
  | .hbm, ⟨56, _⟩ => ⟨S16, .i32⟩
  | .hbm, ⟨57, _⟩ => ⟨S16, .f32⟩
  | .hbm, ⟨58, _⟩ => ⟨S16x1, .i32⟩
  | .hbm, ⟨59, _⟩ => ⟨S16, .i32⟩
  | .hbm, ⟨60, _⟩ => ⟨S16, .f32⟩
  | .hbm, ⟨61, _⟩ => ⟨S16x1, .f32⟩
  | .hbm, ⟨62, _⟩ => ⟨S16x1, .f32⟩
  | .hbm, ⟨63, _⟩ => ⟨S16x1, .f32⟩
  | .hbm, ⟨64, _⟩ => ⟨S16x1, .f32⟩
  | .hbm, ⟨65, _⟩ => ⟨S16x4, .f32⟩
  | .hbm, ⟨66, _⟩ => ⟨S16x1x4, .f32⟩
  | .hbm, ⟨67, _⟩ => ⟨S16x20000x4, .f32⟩
  | .hbm, ⟨68, _⟩ => ⟨S16x20000x4, .f32⟩
  | _, _ => ⟨S16x20000x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Proof.RowMath.lean ====
/- Facts about one row of 92 extended reals: the softmax of the row, its largest value over the first 91 places, and
   the place where that value is first taken; and one box's corners.  Nothing here names a program. -/
module

public import Idealize.ShloMosaic.Lib.Pointwise

@[expose] public section

noncomputable section

namespace Cert.Row

open Idealize.ShloMosaic

/-! ## The row's softmax -/

/-- The largest value of a row. -/
def peak (v : Fin 92 → EReal) : EReal := Finset.univ.sup v

/-- The sum of the exponentials of the row's distances to its largest value. -/
def mass (v : Fin 92 → EReal) : EReal := ∑ k, Ideal.exp (v k - peak v)

/-- The softmax's value at a logit `y` of the row. -/
def share (v : Fin 92 → EReal) (y : EReal) : EReal := Ideal.div (Ideal.exp (y - peak v)) (mass v)

/-- The first 91 places of a row. -/
def known (v : Fin 92 → EReal) : Fin 91 → EReal := fun k => v ⟨k.val, by omega⟩

/-- The largest value over the first 91 places. -/
def knownPeak (v : Fin 92 → EReal) : EReal := Finset.univ.sup (known v)

/-- The exponential of an extended real is not negative. -/
theorem exp_nonneg (x : EReal) : 0 ≤ Ideal.exp x := by
  induction x with
  | bot => simp
  | top => simp
  | coe r => simpa using (Real.exp_pos r).le

/-- The exponential keeps the order of the extended reals. -/
theorem exp_mono : Monotone Ideal.exp := by
  intro x y h
  induction x with
  | bot => simpa using exp_nonneg y
  | top => rw [top_le_iff.1 h]
  | coe r =>
    induction y with
    | bot => simp at h
    | top => simp
    | coe s => simpa using h

/-- Division by a value that is not negative keeps the order. -/
theorem div_mono {s : EReal} (hs : 0 ≤ s) : Monotone fun x => Ideal.div x s := by
  intro x y h
  show Ideal.div x s ≤ Ideal.div y s
  unfold Ideal.div
  split_ifs with h0 h1 h2 h2
  · exact le_rfl
  · exact absurd (h1.trans_le h) h2
  · exact bot_le
  · exact le_rfl
  · exact mul_le_mul_of_nonneg_right h (EReal.inv_nonneg_of_nonneg hs)

/-- The sum of exponentials is not negative. -/
theorem mass_nonneg (v : Fin 92 → EReal) : 0 ≤ mass v := Finset.sum_nonneg fun _ _ => exp_nonneg _

/-- A larger logit has at least as large a probability. -/
theorem share_mono (v : Fin 92 → EReal) : Monotone (share v) := fun _ _ h =>
  div_mono (mass_nonneg v) (exp_mono (EReal.sub_le_sub h le_rfl))

/-- The largest probability over the first 91 places is the probability of the largest logit there. -/
theorem sup_share (v : Fin 92 → EReal) :
    (Finset.univ.sup fun k => share v (known v k)) = share v (knownPeak v) := by
  obtain ⟨k, -, hk⟩ := Finset.exists_mem_eq_sup (Finset.univ : Finset (Fin 91)) Finset.univ_nonempty (known v)
  apply le_antisymm
  · exact Finset.sup_le fun l _ => share_mono v (Finset.le_sup (f := known v) (Finset.mem_univ l))
  · rw [knownPeak, hk]
    exact Finset.le_sup (f := fun k => share v (known v k)) (Finset.mem_univ k)

/-- The exponential of the distance from a real upper bound is a real number, not negative. -/
theorem exp_sub_real {y : EReal} {m : ℝ} (h : y ≤ m) : ∃ a : ℝ, 0 ≤ a ∧ Ideal.exp (y - m) = a := by
  induction y with
  | bot => exact ⟨0, le_rfl, by simp⟩
  | top => simp at h
  | coe r => exact ⟨Real.exp (r - m), (Real.exp_pos _).le, by rw [← EReal.coe_sub, Ideal.exp_coe]⟩

/-- Against a real upper bound the exponential of the distance is strictly increasing. -/
theorem exp_sub_lt {x y : EReal} {m : ℝ} (hxy : x < y) (hy : y ≤ m) : Ideal.exp (x - m) < Ideal.exp (y - m) := by
  induction y with
  | bot => simp at hxy
  | top => simp at hy
  | coe r =>
    induction x with
    | bot =>
      rw [← EReal.coe_sub, Ideal.exp_coe, EReal.bot_sub, Ideal.exp_bot]
      exact EReal.coe_pos.2 (Real.exp_pos _)
    | top => simp at hxy
    | coe s =>
      rw [← EReal.coe_sub, ← EReal.coe_sub, Ideal.exp_coe, Ideal.exp_coe, EReal.coe_lt_coe_iff]
      exact Real.exp_lt_exp.2 (sub_lt_sub_right (EReal.coe_lt_coe_iff.1 hxy) m)

/-- A sum of real numbers, taken among the extended reals. -/
theorem sum_coe {n : ℕ} (a : Fin n → ℝ) : (∑ k, (a k : EReal)) = ((∑ k, a k : ℝ) : EReal) := by
  induction n with
  | zero => simp
  | succ n ih => rw [Fin.sum_univ_succ, Fin.sum_univ_succ, ih, EReal.coe_add]

/-- When the row's largest value is a real number, the sum of exponentials is a positive real number. -/
theorem mass_real {v : Fin 92 → EReal} {m : ℝ} (hm : peak v = m) : ∃ s : ℝ, 0 < s ∧ mass v = s := by
  have hle : ∀ k, v k ≤ m := fun k => hm ▸ Finset.le_sup (f := v) (Finset.mem_univ k)
  choose a ha hav using fun k => exp_sub_real (hle k)
  obtain ⟨k, -, hk⟩ := Finset.exists_mem_eq_sup (Finset.univ : Finset (Fin 92)) Finset.univ_nonempty v
  refine ⟨∑ k, a k, ?_, ?_⟩
  · refine Finset.sum_pos' (fun k _ => ha k) ⟨k, Finset.mem_univ k, ?_⟩
    have h1 : v k = m := by rw [← hm]; exact hk.symm
    have h2 := hav k
    rw [h1, ← EReal.coe_sub, sub_self, Ideal.exp_coe, EReal.coe_eq_coe_iff] at h2
    rw [← h2]; simp
  · rw [mass, ← sum_coe]
    exact Finset.sum_congr rfl fun k _ => by rw [hm, hav k]

/-- In a row without plus infinity, the larger of two logits has the larger probability. -/
theorem share_lt {v : Fin 92 → EReal} (hv : ∀ k, v k < ⊤) {x y : EReal} (hxy : x < y) (hy : y ≤ peak v) :
    share v x < share v y := by
  have htop : peak v < ⊤ := (Finset.sup_lt_iff (by simp)).2 fun k _ => hv k
  have hbot : ⊥ < peak v := bot_le.trans_lt (hxy.trans_le hy)
  obtain ⟨m, hm⟩ : ∃ m : ℝ, peak v = m := ⟨(peak v).toReal, (EReal.coe_toReal htop.ne hbot.ne').symm⟩
  obtain ⟨s, hs, hsv⟩ := mass_real hm
  rw [hm] at hy
  have hlt := exp_sub_lt hxy hy
  obtain ⟨a, -, ha⟩ := exp_sub_real (hxy.le.trans hy)
  obtain ⟨b, -, hb⟩ := exp_sub_real hy
  rw [ha, hb, EReal.coe_lt_coe_iff] at hlt
  rw [share, share, hm, hsv, ha, hb, Ideal.div_coe hs.ne', Ideal.div_coe hs.ne', ← EReal.coe_mul, ← EReal.coe_mul,
    EReal.coe_lt_coe_iff]
  exact mul_lt_mul_of_pos_right hlt (by positivity)

/-! ## The first place of the largest value -/

/-- `k` is the first place where `w` takes its largest value. -/
def IsFirst {n : ℕ} (w : Fin n → EReal) (k : Fin n) : Prop := (∀ l, w l ≤ w k) ∧ ∀ l, l < k → w l < w k

/-- Over 91 places there is such a place. -/
theorem exists_isFirst (w : Fin 91 → EReal) : ∃ k, IsFirst w k := by
  classical
  obtain ⟨k₀, -, h₀⟩ := Finset.exists_max_image (Finset.univ : Finset (Fin 91)) w Finset.univ_nonempty
  obtain ⟨k, hk, hmin⟩ := WellFounded.has_min (wellFounded_lt (α := Fin 91)) {k | ∀ l, w l ≤ w k}
    ⟨k₀, fun l => h₀ l (Finset.mem_univ l)⟩
  refine ⟨k, hk, fun l hl => ?_⟩
  by_contra hge
  exact hmin l (fun j => (hk j).trans (not_lt.1 hge)) hl

/-- The first place of the largest value. -/
def firstPlace (w : Fin 91 → EReal) : Fin 91 := Classical.choose (exists_isFirst w)

/-- It is such a place. -/
theorem firstPlace_isFirst (w : Fin 91 → EReal) : IsFirst w (firstPlace w) := Classical.choose_spec (exists_isFirst w)

/-- In a row without plus infinity, the first place of the largest logit is that of the largest probability. -/
theorem isFirst_share {v : Fin 92 → EReal} (hv : ∀ k, v k < ⊤) {k : Fin 91} (h : IsFirst (known v) k) :
    IsFirst (fun l => share v (known v l)) k :=
  ⟨fun l => share_mono v (h.1 l), fun l hl => share_lt hv (h.2 l hl) (Finset.le_sup (f := v) (Finset.mem_univ _))⟩

/-- The largest value over the first 91 places, taken over all 92 with the last one replaced by minus infinity. -/
theorem sup_masked (v : Fin 92 → EReal) :
    (Finset.univ.sup fun k : Fin 92 => if k.val < 91 then v k else ⊥) = knownPeak v := by
  apply le_antisymm
  · refine Finset.sup_le fun k _ => ?_
    split_ifs with h
    · exact Finset.le_sup (f := known v) (Finset.mem_univ ⟨k.val, h⟩)
    · exact bot_le
  · refine Finset.sup_le fun k _ => ?_
    have h := Finset.le_sup (f := fun k : Fin 92 => if k.val < 91 then v k else ⊥)
      (Finset.mem_univ (⟨k.val, by omega⟩ : Fin 92))
    simp only [k.isLt, if_true] at h
    exact h

/-! ## The smallest of a row of words -/

/-- The signed minimum of two words has the smaller of their two values. -/
theorem toInt_minsi (x y : BitVec 32) : (IntOp.minsi x y).toInt = min x.toInt y.toInt := by
  unfold IntOp.minsi
  split_ifs with h
  · exact (min_eq_left (BitVec.slt_iff_toInt_lt.1 h).le).symm
  · exact (min_eq_right (not_lt.1 fun h' => h (BitVec.slt_iff_toInt_lt.2 h'))).symm

/-- The value of a small number's word. -/
theorem toInt_small {n : ℕ} (h : n < 100) : (BitVec.ofNat 32 n).toInt = n := by
  rw [BitVec.toInt_eq_toNat_of_lt (by rw [BitVec.toNat_ofNat]; omega), BitVec.toNat_ofNat]
  omega

/-- The smallest place among those of the first 91 whose value is the largest there: the first such place. -/
theorem fold_minsi {v : Fin 92 → EReal} {k : Fin 91} (h : IsFirst (known v) k) :
    (Finset.univ : Finset (Fin 92)).fold IntOp.minsi 2147483647#32
        (fun l => if (if l.val < 91 then v l else ⊥) = knownPeak v then BitVec.ofNat 32 l.val else 92#32)
      = BitVec.ofNat 32 k.val := by
  have hpk : knownPeak v = known v k :=
    le_antisymm (Finset.sup_le fun l _ => h.1 l) (Finset.le_sup (f := known v) (Finset.mem_univ k))
  have hk : (BitVec.ofNat 32 k.val).toInt = (k.val : ℤ) := toInt_small (by omega)
  apply BitVec.eq_of_toInt_eq
  rw [← Finset.fold_hom (op' := min) (m := BitVec.toInt) toInt_minsi, hk]
  apply le_antisymm
  · rw [Finset.fold_min_le]
    refine .inr ⟨⟨k.val, by omega⟩, Finset.mem_univ _, ?_⟩
    rw [if_pos (by rw [hpk, if_pos k.isLt]; rfl), toInt_small (by omega)]
  · rw [Finset.le_fold_min]
    refine ⟨by rw [show (2147483647#32 : BitVec 32).toInt = 2147483647 from by decide]; omega, fun l _ => ?_⟩
    split_ifs with h1 h2 h2
    · rw [toInt_small (by omega)]
      by_contra hlt
      have h3 : (⟨l.val, h1⟩ : Fin 91) < k := by rw [Fin.lt_def]; simp only; omega
      exact absurd ((h.2 _ h3).trans_eq hpk.symm) (by rw [← h2]; exact lt_irrefl _)
    · rw [show (92#32 : BitVec 32).toInt = 92 from by decide]; omega
    · rw [toInt_small (by omega)]; omega
    · rw [show (92#32 : BitVec 32).toInt = 92 from by decide]; omega

/-! ## One box -/

/-- A box given by its middle, width and height, as its two corners. -/
def corner (b : Fin 4 → EReal) : Fin 4 → EReal :=
  ![b 0 - Ideal.ofBits .f32 0x3F000000#32 * b 2, b 1 - Ideal.ofBits .f32 0x3F000000#32 * b 3,
    b 0 + Ideal.ofBits .f32 0x3F000000#32 * b 2, b 1 + Ideal.ofBits .f32 0x3F000000#32 * b 3]

/-- The factors of a box's four coordinates in an image of height `h` and width `w`. -/
def factor (h w : BitVec 32) : Fin 4 → EReal :=
  ![((w.toInt : ℝ) : EReal), ((h.toInt : ℝ) : EReal), ((w.toInt : ℝ) : EReal), ((h.toInt : ℝ) : EReal)]

/-! ## The words of the infinities -/

/-- The word of minus infinity. -/
theorem word_bot : Ideal.ofBits .f32 0xFF800000#32 = ⊥ := by simp [Ideal.ofBits, Ideal.ieee]

/-- The word of plus infinity. -/
theorem word_top : Ideal.ofBits .f32 0x7F800000#32 = ⊤ := by simp [Ideal.ofBits, Ideal.ieee]

/-- The test that a place comes before the last one. -/
theorem slt_91 {α : Type} (k : Fin 92) (x y : α) :
    Scalar.select (IntOp.cmpi CmpIPredicate.slt (BitVec.ofNat 32 k.val) 91#32) x y = if k.val < 91 then x else y := by
  have h : IntOp.cmpi CmpIPredicate.slt (BitVec.ofNat 32 k.val) 91#32 = if k.val < 91 then 1#1 else 0#1 := by
    revert k; decide +kernel
  rw [h]
  split_ifs <;> rfl

end Cert.Row

end
-- ==== Proof.Precondition.lean ====
/- The claim's precondition, read: every logit is below plus infinity. -/
module

public import proofs.«01_k».proof.Pre_no_infinite_logit
public import proofs.«01_k».proof.Proof.RowMath
public import Idealize.ShloMosaic.Lib.ReduceAll

@[expose] public section

noncomputable section

namespace Cert.Precondition

open Idealize.ShloMosaic
open Cert.Pre_no_infinite_logit

/-- The side conditions that the precondition's program states about its shapes. -/
instance facts : Cert.Pre_no_infinite_logit.Facts where
  bcast_S_S16x20000x92 := by decide
  reducesTo_S16x20000x92_S_d0_1_2 := by decide
  h_S_ := by decide

/-- The shape of a single value has one place only. -/
instance : Subsingleton S_.Idx := ⟨fun _ _ => funext fun k => k.elim0⟩

/-- The comparison "less than" gives the bit 1 only where it holds. -/
theorem lt_of_cmp {s : Shape} (x y : FVec Ideal s .f32) (i : s.Idx) (h : cmpf .olt x y i = 1#1) :
    (x i : EReal) < (y i : EReal) := by
  have h' : BitVec.ofBool (decide ((x i : EReal) < (y i : EReal))) = 1#1 := h
  by_contra hn
  rw [decide_eq_false hn] at h'
  exact absurd h' (by decide)

/-- One value spread over a whole shape is that value at every place. -/
theorem spread_at {s : Shape} (h : S_.BroadcastsInDim s (![] : Fin 0 → Fin s.rank)) (b : BitVec 32) (i : s.Idx) :
    (broadcastInDim s ![] h (constant S_ .f32 b : FVec Ideal S_ .f32) : FVec Ideal s .f32) i = Ideal.ofBits .f32 b := rfl

/-- Where the precondition holds, every logit is below plus infinity. -/
theorem logit_lt (x : FVec Ideal S16x20000x92 .f32) (b : FVec Ideal S16x20000x4 .f32) (t : IVec S16x2 32)
    (h : Cert.Pre_no_infinite_logit.fn (F := Ideal) x b t = fun _ => 1#1) (i : S16x20000x92.Idx) :
    (x i : EReal) < ⊤ := by
  have e := congrFun h (Shape.Idx.first Facts.h_S_)
  unfold Cert.Pre_no_infinite_logit.fn at e
  have hi := lt_of_cmp _ _ i (Host.reduce_andi_all _ _ _ _ _ e i)
  rw [spread_at, Row.word_top] at hi
  exact hi

end Cert.Precondition

end
-- ==== Proof.RefRun.lean ====
/- The run of the reference.  Its three results are named here as functions of the three argument arrays, built from
   the operations the reference program prints, and `run` says that every execution of the program ends with these
   arrays, the arguments unchanged. -/
module

public import proofs.«01_k».proof.Proof.Gen.ReferenceIdeal
public import Idealize.ShloMosaic.Lib.Pointwise
public import Idealize.ShloMosaic.Lib.Claim
public import Idealize.ShloMosaic.Lib.Quiescent

@[expose] public section

noncomputable section

namespace Cert.ReferenceIdeal.Run

open Idealize.ShloMosaic Idealize.ShloMosaic.TcCoe Idealize.SL.Sem
open Cert.ReferenceIdeal Cert.ReferenceIdeal.Gen

/-! ## The results as functions of the arguments -/

/-- The word of minus infinity as a scalar array. -/
def negInf : FVec Ideal S_ .f32 := constant S_ .f32 0xFF800000#32

/-- The largest logit of every query, over all 92 classes. -/
def top (x : FVec Ideal S16x20000x92 .f32) : FVec Ideal S16x20000 .f32 :=
  maximumf (broadcastInDim S16x20000 ![] bcast_S_S16x20000 negInf)
    (Host.reduce (FloatOps.maximumf (F := Ideal) (φ := .f32)) x negInf reducesTo_S16x20000x92_S16x20000_d2 h_S_)

/-- A value per query, repeated over the 92 classes. -/
def spread (v : FVec Ideal S16x20000 .f32) : FVec Ideal S16x20000x92 .f32 :=
  broadcastInDim S16x20000x92 ![0, 1, 2] bcast_S16x20000x1_S16x20000x92_0_1_2
    (broadcastInDim S16x20000x1 ![0, 1] bcast_S16x20000_S16x20000x1_0_1 v)

/-- The exponentials of the logits' distances to their query's largest. -/
def expo (x : FVec Ideal S16x20000x92 .f32) : FVec Ideal S16x20000x92 .f32 := Host.exp (subf x (spread (top x)))

/-- The softmax over the classes. -/
def prob (x : FVec Ideal S16x20000x92 .f32) : FVec Ideal S16x20000x92 .f32 :=
  Host.divf (expo x)
    (spread (Host.reduceAdd (expo x) (constant S_ .f32 0x00000000#32) reducesTo_S16x20000x92_S16x20000_d2 h_S_))

/-- The softmax without the last class. -/
def known (x : FVec Ideal S16x20000x92 .f32) : FVec Ideal S16x20000x91 .f32 :=
  extractStridedSlice S16x20000x91 ![0, 0, 0] (prob x) slices_S16x20000x92_S16x20000x91_0_0_0

/-- The first result: the largest probability of every query. -/
def scores (x : FVec Ideal S16x20000x92 .f32) : FVec Ideal S16x20000 .f32 :=
  Host.reduce (FloatOps.maximumf (F := Ideal) (φ := .f32)) (known x) negInf reducesTo_S16x20000x91_S16x20000_d2 h_S_

/-- The second result: the class of that probability. -/
def labels (x : FVec Ideal S16x20000x92 .f32) : IVec S16x20000 32 := fun j =>
  (Host.argReduce reducer_argmax_f32_i32 (known x) (iotaInDim S16x20000x91 32 2) negInf (constantI S_ 32 0#32)
    reducesTo_S16x20000x91_S16x20000_d2 h_S_ j).2

/-- The first coordinate of every box: the middle's abscissa. -/
def midX (b : FVec Ideal S16x20000x4 .f32) : FVec Ideal S16x20000 .f32 :=
  shapeCast S16x20000 (extractStridedSlice S16x20000x1 ![0, 0, 0] b slices_S16x20000x4_S16x20000x1_0_0_0)
    shapeCasts_S16x20000x1_S16x20000

/-- The second: the middle's ordinate. -/
def midY (b : FVec Ideal S16x20000x4 .f32) : FVec Ideal S16x20000 .f32 :=
  shapeCast S16x20000 (extractStridedSlice S16x20000x1 ![0, 0, 1] b slices_S16x20000x4_S16x20000x1_0_0_1)
    shapeCasts_S16x20000x1_S16x20000

/-- The third: the width. -/
def width (b : FVec Ideal S16x20000x4 .f32) : FVec Ideal S16x20000 .f32 :=
  shapeCast S16x20000 (extractStridedSlice S16x20000x1 ![0, 0, 2] b slices_S16x20000x4_S16x20000x1_0_0_2)
    shapeCasts_S16x20000x1_S16x20000

/-- The fourth: the height. -/
def height (b : FVec Ideal S16x20000x4 .f32) : FVec Ideal S16x20000 .f32 :=
  shapeCast S16x20000 (extractStridedSlice S16x20000x1 ![0, 0, 3] b slices_S16x20000x4_S16x20000x1_0_0_3)
    shapeCasts_S16x20000x1_S16x20000

/-- Half of a value per box. -/
def half (v : FVec Ideal S16x20000 .f32) : FVec Ideal S16x20000 .f32 :=
  mulf (broadcastInDim S16x20000 ![] bcast_S_S16x20000 (constant (F := Ideal) S_ .f32 0x3F000000#32)) v

/-- A value per box as a column. -/
def column (v : FVec Ideal S16x20000 .f32) : FVec Ideal S16x20000x1 .f32 :=
  broadcastInDim S16x20000x1 ![0, 1] bcast_S16x20000_S16x20000x1_0_1 v

/-- Four columns side by side. -/
def beside (p q r s : FVec Ideal S16x20000x1 .f32) : FVec Ideal S16x20000x4 .f32 :=
  concatenate S16x20000x4 2 [⟨S16x20000x1, p⟩, ⟨S16x20000x1, q⟩, ⟨S16x20000x1, r⟩, ⟨S16x20000x1, s⟩]
    concatenates_S16x20000x1_S16x20000x1_S16x20000x1_S16x20000x1_S16x20000x4_d2

/-- The boxes by their two corners. -/
def corners (b : FVec Ideal S16x20000x4 .f32) : FVec Ideal S16x20000x4 .f32 :=
  beside (column (subf (midX b) (half (width b)))) (column (subf (midY b) (half (height b))))
    (column (addf (midX b) (half (width b)))) (column (addf (midY b) (half (height b))))

/-- Every image's height as a float. -/
def imgH (t : IVec S16x2 32) : FVec Ideal S16 .f32 :=
  sitofp .f32 (shapeCast S16 (extractStridedSlice S16x1 ![0, 0] t slices_S16x2_S16x1_0_0) shapeCasts_S16x1_S16)

/-- Every image's width as a float. -/
def imgW (t : IVec S16x2 32) : FVec Ideal S16 .f32 :=
  sitofp .f32 (shapeCast S16 (extractStridedSlice S16x1 ![0, 1] t slices_S16x2_S16x1_0_1) shapeCasts_S16x1_S16)

/-- A value per image as a column. -/
def columnImg (v : FVec Ideal S16 .f32) : FVec Ideal S16x1 .f32 := broadcastInDim S16x1 ![0] bcast_S16_S16x1_0 v

/-- Four columns over the images side by side. -/
def besideImg (p q r s : FVec Ideal S16x1 .f32) : FVec Ideal S16x4 .f32 :=
  concatenate S16x4 1 [⟨S16x1, p⟩, ⟨S16x1, q⟩, ⟨S16x1, r⟩, ⟨S16x1, s⟩] concatenates_S16x1_S16x1_S16x1_S16x1_S16x4_d1

/-- Width, height, width, height of every image. -/
def sizes (t : IVec S16x2 32) : FVec Ideal S16x4 .f32 :=
  besideImg (columnImg (imgW t)) (columnImg (imgH t)) (columnImg (imgW t)) (columnImg (imgH t))

/-- The third result: the corners in the image's own units. -/
def boxes (b : FVec Ideal S16x20000x4 .f32) (t : IVec S16x2 32) : FVec Ideal S16x20000x4 .f32 :=
  mulf (corners b)
    (broadcastInDim S16x20000x4 ![0, 1, 2] bcast_S16x1x4_S16x20000x4_0_1_2
      (broadcastInDim S16x1x4 ![0, 2] bcast_S16x4_S16x1x4_0_2 (sizes t)))

/-! ## The run -/

variable (m : (ℓ : Loc nD τ sig) → Buf (Elt Ideal) ℓ) (g : Dev nD → PrngReg)

set_option maxHeartbeats 4000000 in
set_option maxRecDepth 16384 in
/-- Every execution of the reference ends with the three arrays above of its arguments, and with the arguments
    themselves unchanged. -/
theorem run : θ_run (defs (F := Ideal)) (onTc (τ := τ) (main (F := Ideal))) ⟨m, fun _ => 0, g⟩ (fun r => ∀ c : Dev nD,
      r.2.mem ((c.tc : Thread nD τ).loc main_v12) = scores (m ((c.tc : Thread nD τ).loc main_arg0))
      ∧ r.2.mem ((c.tc : Thread nD τ).loc main_v14) = labels (m ((c.tc : Thread nD τ).loc main_arg0))
      ∧ r.2.mem ((c.tc : Thread nD τ).loc main_v53)
          = boxes (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine θ_run_mono (StableHlo.run_hlo _ _ (by hlo_seq) (by decide) (by decide) (by simp)
    (by intro _ h; (repeat (cases h with | head => rfl | tail _ h => ?_)); exact nomatch h) _ _) fun r h c =>
    ⟨(h c main_v12).trans ?_, (h c main_v14).trans ?_, (h c main_v53).trans ?_, (h c main_arg0).trans ?_,
      (h c main_arg1).trans ?_, (h c main_arg2).trans ?_⟩
  · after_results_simp
    rfl
  · after_results_simp
    rfl
  · after_results_simp
    refine congrArg₂ mulf (?_ : beside _ _ _ _ = beside _ _ _ _)
      (congrArg _ (congrArg _ (?_ : besideImg _ _ _ _ = besideImg _ _ _ _)))
    all_goals
      congr 1 <;> · dsimp only [Matrix.cons_val]; after_results_simp; rfl
  all_goals after_results_simp

end Cert.ReferenceIdeal.Run

end
-- ==== Proof.RefRead.lean ====
/- The reference's results at one query: scores and labels read off the query's row of logits, boxes off its box. -/
module

public import proofs.«01_k».proof.Proof.RefRun
public import proofs.«01_k».proof.Proof.RowMath

@[expose] public section

noncomputable section

namespace Cert.ReferenceIdeal.Read

open Idealize.ShloMosaic Idealize.ShloMosaic.TcCoe Idealize.SL.Sem
open Cert.ReferenceIdeal Cert.ReferenceIdeal.Gen Cert.ReferenceIdeal.Run Cert.Row

/-- The logits of query `q` of image `i`. -/
def row (x : FVec Ideal S16x20000x92 .f32) (i : Fin 16) (q : Fin 20000) : Fin 92 → EReal := fun k => x (ix3 i q k)

/-! ## Reductions over the classes -/

/-- The last axis of the logits' shape can be dropped. -/
theorem drops92 : S16x20000x92.Reduces [2] S16x20000 := by decide

/-- The last axis of the shape without the last class can be dropped. -/
theorem drops91 : S16x20000x91.Reduces [2] S16x20000 := by decide

/-- The place over a query and a class. -/
theorem lift92 (i : Fin 16) (q : Fin 20000) (k : Fin 92) : drops92.lift (ix2 i q) k = ix3 i q k := by
  funext c
  fin_cases c <;> rfl

/-- The place over a query and a class but the last. -/
theorem lift91 (i : Fin 16) (q : Fin 20000) (k : Fin 91) : drops91.lift (ix2 i q) k = ix3 i q k := by
  funext c
  fin_cases c <;> rfl

/-- The initial value of the maxima is minus infinity. -/
theorem negInf_at (j : S_.Idx) : negInf j = (⊥ : EReal) := word_bot

/-- A maximum over all classes is the largest value of the query's row. -/
theorem max92 (x : FVec Ideal S16x20000x92 .f32) (i : Fin 16) (q : Fin 20000) :
    Host.reduce (FloatOps.maximumf (F := Ideal) (φ := .f32)) x negInf reducesTo_S16x20000x92_S16x20000_d2 h_S_ (ix2 i q)
      = Finset.univ.sup fun k : Fin 92 => x (ix3 i q k) := by
  rw [Host.reduce_eq_fold_single _ _ _ _ drops92, negInf_at,
    show x ∘ drops92.lift (ix2 i q) = fun k : Fin 92 => x (ix3 i q k) from funext fun k => congrArg x (lift92 i q k)]
  rfl

/-- The same over the classes but the last. -/
theorem max91 (x : FVec Ideal S16x20000x91 .f32) (i : Fin 16) (q : Fin 20000) :
    Host.reduce (FloatOps.maximumf (F := Ideal) (φ := .f32)) x negInf reducesTo_S16x20000x91_S16x20000_d2 h_S_ (ix2 i q)
      = Finset.univ.sup fun k : Fin 91 => x (ix3 i q k) := by
  rw [Host.reduce_eq_fold_single _ _ _ _ drops91, negInf_at,
    show x ∘ drops91.lift (ix2 i q) = fun k : Fin 91 => x (ix3 i q k) from funext fun k => congrArg x (lift91 i q k)]
  rfl

/-- A sum over all classes is the sum of the query's row. -/
theorem sum92 (x : FVec Ideal S16x20000x92 .f32) (i : Fin 16) (q : Fin 20000) :
    Host.reduceAdd x (constant S_ .f32 0x00000000#32) reducesTo_S16x20000x92_S16x20000_d2 h_S_ (ix2 i q)
      = ∑ k : Fin 92, (x (ix3 i q k) : EReal) := by
  have h := Ideal.hostReduceAdd_single reducesTo_S16x20000x92_S16x20000_d2 drops92 x
    (Ideal.ofBits .f32 0x00000000#32) (ix2 i q)
  refine h.trans ?_
  rw [Ideal.ofBits_zero_f32, zero_add]
  exact Finset.sum_congr rfl fun k _ => congrArg x (lift92 i q k)

/-! ## The softmax -/

/-- The larger of two arrays at a place. -/
theorem maximumf_at {s : Shape} (a b : FVec Ideal s .f32) (j : s.Idx) : maximumf a b j = max (a j : EReal) (b j) := rfl

/-- The largest logit of a query. -/
theorem top_at (x : FVec Ideal S16x20000x92 .f32) (i : Fin 16) (q : Fin 20000) : top x (ix2 i q) = peak (row x i q) := by
  have hb : broadcastInDim S16x20000 ![] bcast_S_S16x20000 negInf (ix2 i q) = (⊥ : EReal) := negInf_at _
  rw [top, maximumf_at, hb, max92, max_eq_right bot_le]
  rfl

/-- A value per query, repeated over the classes. -/
theorem spread_at (v : FVec Ideal S16x20000 .f32) (i : Fin 16) (q : Fin 20000) (k : Fin 92) :
    spread v (ix3 i q k) = v (ix2 i q) := by
  pointwise [spread]

/-- The exponential of a logit's distance to its query's largest. -/
theorem expo_at (x : FVec Ideal S16x20000x92 .f32) (i : Fin 16) (q : Fin 20000) (k : Fin 92) :
    expo x (ix3 i q k) = Ideal.exp (row x i q k - peak (row x i q)) := by
  rw [show expo x (ix3 i q k) = Ideal.exp (x (ix3 i q k) - spread (top x) (ix3 i q k)) from rfl, spread_at, top_at]
  rfl

/-- The quotient of two arrays at a place. -/
theorem divf_at {s : Shape} (a b : FVec Ideal s .f32) (j : s.Idx) : Host.divf a b j = Ideal.div (a j) (b j) := rfl

/-- The probability of a class at a query. -/
theorem prob_at (x : FVec Ideal S16x20000x92 .f32) (i : Fin 16) (q : Fin 20000) (k : Fin 92) :
    prob x (ix3 i q k) = share (row x i q) (row x i q k) := by
  rw [prob, divf_at, spread_at, sum92]
  simp only [expo_at]
  rfl

/-- The probability of a class but the last. -/
theorem known_at (x : FVec Ideal S16x20000x92 .f32) (i : Fin 16) (q : Fin 20000) (k : Fin 91) :
    Run.known x (ix3 i q k) = share (row x i q) (Row.known (row x i q) k) := by
  have h : Run.known x (ix3 i q k) = prob x (ix3 i q ⟨k.val, by omega⟩) := by
    generalize hp : prob x = p
    unfold Run.known
    rw [hp]
    pointwise
  rw [h, prob_at]
  rfl

/-! ## The results -/

/-- The score of a query: the probability of its largest logit over the classes but the last. -/
theorem scores_at (x : FVec Ideal S16x20000x92 .f32) (i : Fin 16) (q : Fin 20000) :
    scores x (ix2 i q) = share (row x i q) (knownPeak (row x i q)) := by
  rw [scores, max91, ← sup_share]
  exact congrArg _ (funext fun k => known_at x i q k)

/-- One pair yields to another whose value is larger, or equal with a label that is not larger. -/
def Yields (a b : EReal × BitVec 32) : Prop := a.1 < b.1 ∨ (a.1 = b.1 ∧ b.2.toInt ≤ a.2.toInt)

/-- A pair yields to itself. -/
theorem Yields.refl (a : EReal × BitVec 32) : Yields a a := .inr ⟨rfl, le_rfl⟩

/-- Yielding is transitive. -/
theorem Yields.trans {a b c : EReal × BitVec 32} (h : Yields a b) (h' : Yields b c) : Yields a c := by
  rcases h with h | ⟨h, l⟩ <;> rcases h' with h' | ⟨h', l'⟩
  · exact .inl (h.trans h')
  · exact .inl (h.trans_eq h')
  · exact .inl (h.trans_lt h')
  · exact .inr ⟨h.trans h', l'.trans l⟩

/-- The two selections of the arg-max's step, by the truth of its three comparisons. -/
theorem pick {α β : Type} (a b c : Bool) (x y : α) (m n : β) :
    (Scalar.select (IntOp.ori (BitVec.ofBool a) 0#1) x y,
      Scalar.select (IntOp.ori (IntOp.ori (BitVec.ofBool a) 0#1) (IntOp.andi (BitVec.ofBool b) (BitVec.ofBool c))) m n)
      = (if a = true then x else y, if a = true ∨ (b = true ∧ c = true) then m else n) := by
  cases a <;> cases b <;> cases c <;> simp <;> constructor <;> rfl

/-- The arg-max's step picks one of its two pairs, to which both yield. -/
theorem step (a b : EReal × BitVec 32) :
    (reducer_argmax_f32_i32 (F := Ideal) a b = a ∨ reducer_argmax_f32_i32 (F := Ideal) a b = b)
      ∧ Yields a (reducer_argmax_f32_i32 (F := Ideal) a b) ∧ Yields b (reducer_argmax_f32_i32 (F := Ideal) a b) := by
  obtain ⟨x, m⟩ := a
  obtain ⟨y, n⟩ := b
  have h : reducer_argmax_f32_i32 (F := Ideal) (x, m) (y, n)
      = (if y < x then x else y, if y < x ∨ (x = y ∧ m.toInt < n.toInt) then m else n) := by
    have e1 : FloatOps.cmpf (F := Ideal) (φ := .f32) .ogt x y = BitVec.ofBool (decide (y < x)) := rfl
    have e2 : FloatOps.cmpf (F := Ideal) (φ := .f32) .une x x = 0#1 := by simp [Ideal.cmpf_def, Ideal.cmp]
    have e3 : FloatOps.cmpf (F := Ideal) (φ := .f32) .oeq x y = BitVec.ofBool (decide (x = y)) := rfl
    have e4 : IntOp.cmpi .slt m n = BitVec.ofBool (decide (m.toInt < n.toInt)) := by
      rw [IntOp.cmpi, BitVec.slt_eq_decide]
    unfold reducer_argmax_f32_i32
    simp only [e1, e2, e3, e4, pick]
    simp only [decide_eq_true_eq]
  rw [h]
  rcases lt_trichotomy x y with c | c | c
  · rw [if_neg c.not_gt, if_neg (by rintro (c' | ⟨c', -⟩); exacts [c.not_gt c', c.ne c'])]
    exact ⟨.inr rfl, .inl c, .refl _⟩
  · subst c
    rw [if_neg (lt_irrefl x)]
    by_cases l : m.toInt < n.toInt
    · rw [if_pos (.inr ⟨rfl, l⟩)]
      exact ⟨.inl rfl, .refl _, .inr ⟨rfl, l.le⟩⟩
    · rw [if_neg (by rintro (c' | ⟨-, c'⟩); exacts [lt_irrefl _ c', l c'])]
      exact ⟨.inr rfl, .inr ⟨rfl, not_lt.1 l⟩, .refl _⟩
  · rw [if_pos c, if_pos (.inl c)]
    exact ⟨.inl rfl, .refl _, .inl c⟩

/-- The arg-max over a list of pairs is the initial pair or one of the list, and every one of them yields to it. -/
theorem steps (l : List (EReal × BitVec 32)) (p : EReal × BitVec 32) :
    (l.foldl (reducer_argmax_f32_i32 (F := Ideal)) p = p ∨ l.foldl (reducer_argmax_f32_i32 (F := Ideal)) p ∈ l)
      ∧ Yields p (l.foldl (reducer_argmax_f32_i32 (F := Ideal)) p)
      ∧ ∀ q ∈ l, Yields q (l.foldl (reducer_argmax_f32_i32 (F := Ideal)) p) := by
  induction l generalizing p with
  | nil => exact ⟨.inl rfl, .refl _, by simp⟩
  | cons a l ih =>
    obtain ⟨h1, h2, h3⟩ := ih (reducer_argmax_f32_i32 (F := Ideal) p a)
    obtain ⟨s1, s2, s3⟩ := step p a
    rw [List.foldl_cons]
    refine ⟨?_, s2.trans h2, ?_⟩
    · rcases h1 with h1 | h1
      · rw [h1]
        exact s1.imp_right fun e => by rw [e]; exact List.mem_cons_self
      · exact .inr (List.mem_cons_of_mem _ h1)
    · intro q hq
      rcases List.mem_cons.1 hq with rfl | hq
      · exact s3.trans h2
      · exact h3 q hq

/-- The pairs over which a query's arg-max runs: a class's value with the class's number. -/
theorem mem_fiber (x : FVec Ideal S16x20000x91 .f32) (i : Fin 16) (q : Fin 20000) (p : Ideal .f32 × BitVec 32) :
    p ∈ Host.argReduceFiber x (iotaInDim S16x20000x91 32 2) reducesTo_S16x20000x91_S16x20000_d2 (ix2 i q)
      ↔ ∃ k : Fin 91, p = (x (ix3 i q k), BitVec.ofNat 32 k.val) := by
  have hdrop : ∀ n : Fin S16x20000x91.numel,
      reducesTo_S16x20000x91_S16x20000_d2.drop (S16x20000x91.rowMajor.symm n) = ix2 i q
        ↔ ∃ k : Fin 91, S16x20000x91.rowMajor.symm n = ix3 i q k := by
    intro n
    rw [Shape.ReducesTo.drop_eq_drop _ drops91]
    constructor
    · intro h
      exact ⟨_, ((lift91 i q _).symm.trans (by rw [← h]; exact drops91.lift_drop _)).symm⟩
    · rintro ⟨k, h⟩
      rw [h, ← lift91]
      exact drops91.drop_lift _ _
  have hword : ∀ k : Fin 91, iotaInDim S16x20000x91 32 2 (ix3 i q k) = BitVec.ofNat 32 k.val := fun _ => rfl
  rw [Host.argReduceFiber, List.mem_map]
  constructor
  · rintro ⟨n, hn, rfl⟩
    obtain ⟨k, hk⟩ := (hdrop n).1 (of_decide_eq_true (List.mem_filter.1 hn).2)
    exact ⟨k, by rw [hk, hword]⟩
  · rintro ⟨k, rfl⟩
    refine ⟨S16x20000x91.rowMajor (ix3 i q k), ?_, ?_⟩
    · exact List.mem_filter.2 ⟨List.mem_finRange _, decide_eq_true ((hdrop _).2 ⟨k, Equiv.symm_apply_apply _ _⟩)⟩
    · rw [Equiv.symm_apply_apply, hword]

/-- The arg-max over a list of all 91 values with their numbers, whatever their order: the first number of the
    largest value. -/
theorem label_of_list {l : List (EReal × BitVec 32)} {w : Fin 91 → EReal}
    (hl : ∀ p, p ∈ l ↔ ∃ k : Fin 91, p = (w k, BitVec.ofNat 32 k.val)) {k : Fin 91} (h : IsFirst w k) :
    (l.foldl (reducer_argmax_f32_i32 (F := Ideal)) ((⊥ : EReal), 0#32)).2 = BitVec.ofNat 32 k.val := by
  obtain ⟨h1, -, h3⟩ := steps l ((⊥ : EReal), 0#32)
  generalize l.foldl (reducer_argmax_f32_i32 (F := Ideal)) ((⊥ : EReal), 0#32) = r at h1 h3 ⊢
  have hy := h3 _ ((hl _).2 ⟨k, rfl⟩)
  have hk : (BitVec.ofNat 32 k.val).toInt = (k.val : ℤ) := toInt_small (by omega)
  rcases h1 with h1 | h1
  · -- the initial pair: every value is minus infinity, so the first of them is number 0
    subst h1
    rcases hy with hy | ⟨hy, -⟩
    · exact absurd hy not_lt_bot
    · have hk0 : k.val = 0 := by
        by_contra hne
        have hlt := h.2 ⟨0, by omega⟩ (by rw [Fin.lt_def]; simp only; omega)
        simp only at hlt hy
        rw [hy] at hlt
        exact not_lt_bot hlt
      rw [hk0]
  · obtain ⟨m, rfl⟩ := (hl _).1 h1
    rcases hy with hy | ⟨hy, hm⟩
    · exact absurd (h.1 m) hy.not_ge
    · simp only at hy hm ⊢
      rw [hk, toInt_small (by omega)] at hm
      rcases lt_or_eq_of_le (Int.ofNat_le.1 hm) with hlt | heq
      · exact absurd hy (h.2 m (Fin.lt_def.2 hlt)).ne'
      · rw [heq]

/-- The arg-max of a fiber is the left fold of its step over the fiber's pairs. -/
theorem argReduce_foldl {s t u : Shape} {axes : List (Fin s.rank)} {β : Type} {φ : FTy}
    (f : Ideal φ × β → Ideal φ × β → Ideal φ × β) (x : FVec Ideal s φ) (y : s.Idx → β) (ix : u.Idx → Ideal φ)
    (iy : u.Idx → β) (h : s.ReducesTo axes t) (hu : 0 < u.numel) (j : t.Idx) :
    Host.argReduce f x y ix iy h hu j
      = (Host.argReduceFiber x y h j).foldl f (ix (Shape.Idx.first hu), iy (Shape.Idx.first hu)) := by
  rw [Ideal.argReduce_eq_reduce2, Host.reduce2_eq_foldl_fiber]

/-- The labels are the second components of the arg-max's pairs. -/
theorem labels_eq (x : FVec Ideal S16x20000x92 .f32) :
    labels x = fun j => (Host.argReduce reducer_argmax_f32_i32 (Run.known x) (iotaInDim S16x20000x91 32 2) negInf
      (constantI S_ 32 0#32) reducesTo_S16x20000x91_S16x20000_d2 h_S_ j).2 := rfl

/-- The second components of a family of pairs, at a place where the pair is known. -/
theorem snd_at {ι α β : Type} {g : ι → β} {f : ι → α × β} (hg : g = fun j => (f j).2) {j : ι} {p : α × β} (h : f j = p) :
    g j = p.2 := by
  subst hg
  exact congrArg Prod.snd h

/-- The label of a query is the first class, but the last, of the largest probability. -/
theorem labels_at (x : FVec Ideal S16x20000x92 .f32) (i : Fin 16) (q : Fin 20000) {k : Fin 91}
    (h : IsFirst (fun l => share (row x i q) (Row.known (row x i q) l)) k) :
    labels x (ix2 i q) = BitVec.ofNat 32 k.val := by
  have key : ∀ l : List (Ideal .f32 × BitVec 32),
      (∀ p, p ∈ l ↔ ∃ k : Fin 91, p = (Run.known x (ix3 i q k), BitVec.ofNat 32 k.val)) →
      (l.foldl reducer_argmax_f32_i32 (negInf (Shape.Idx.first h_S_), constantI S_ 32 0#32 (Shape.Idx.first h_S_))).2
        = BitVec.ofNat 32 k.val := by
    intro l hl
    rw [negInf_at]
    simp only [known_at] at hl
    exact label_of_list hl h
  exact (snd_at (labels_eq x) (argReduce_foldl _ _ _ _ _ _ _ _)).trans (key _ (mem_fiber _ i q))

/-- A coordinate of a box: the corner's, times the image's width or height. -/
theorem boxes_at (b : FVec Ideal S16x20000x4 .f32) (t : IVec S16x2 32) (i : Fin 16) (q : Fin 20000) (k : Fin 4) :
    boxes b t (ix3 i q k) = corner (fun l => b (ix3 i q l)) k * factor (t (ix2 i 0)) (t (ix2 i 1)) k := by
  pointwise [boxes, sizes, corners, beside, besideImg, columnImg, column, midX, midY, width, height, half, imgH, imgW]
  fin_cases k <;> rfl

end Cert.ReferenceIdeal.Read

end
-- ==== Proof.KernelBlock.lean ====
/- What the kernel stores for one query of a block: functions of the query's row of logits and of its box. -/
module

public import proofs.«01_k».proof.Proof.Gen.KernelIdeal.Frame
public import proofs.«01_k».proof.Proof.RowMath

@[expose] public section

noncomputable section

namespace Cert.KernelIdeal.Block

open Idealize.ShloMosaic Idealize.ShloMosaic.TcCoe Idealize.SL.Sem
open Cert.KernelIdeal Cert.KernelIdeal.Gen Cert.Row

/-- The logits of query `r` of a block. -/
def row (x : Vec Ideal S1x2000x92 .f32) (r : Fin 2000) : Fin 92 → EReal := fun k => x (ix3 0 r k)

/-- The stored score: the probability of the largest logit over the classes but the last. -/
theorem score_at (x : Vec Ideal S1x2000x92 .f32) (r : Fin 2000) :
    k0_pay5 (F := Ideal) x (ix3 0 r 0) = share (row x r) (knownPeak (row x r)) := by
  pointwise [k0_pay5, k0_pay4, k0_pay3, k0_pay2]
  simp only [slt_91, word_bot]
  rw [← sup_masked]
  rfl

/-- The stored label: the first class, but the last, of the largest logit. -/
theorem label_at (x : Vec Ideal S1x2000x92 .f32) (r : Fin 2000) {k : Fin 91} (h : IsFirst (known (row x r)) k) :
    k0_pay6 (F := Ideal) x (ix3 0 r 0) = BitVec.ofNat 32 k.val := by
  rw [← fold_minsi h]
  pointwise [k0_pay6, k0_pay4, k0_pay3, k0_pay2]
  simp only [slt_91, word_bot]
  rw [← sup_masked]
  rfl

/-- The stored box coordinate: the corner's, times the image's factor. -/
theorem box_at (x : Vec Ideal S1x2000x4 .f32) (s : Vec Ideal S1x1x4 .f32) (r : Fin 2000) (k : Fin 4) :
    k0_pay1 (F := Ideal) (k0_pay8 x) (k0_pay9 x) (k0_pay10 x) (k0_pay11 x) s (ix3 0 r k)
      = corner (fun l => x (ix3 0 r l)) k * s (ix3 0 0 k) := by
  pointwise [k0_pay1, k0_pay7, k0_pay8, k0_pay9, k0_pay10, k0_pay11]
  fin_cases k <;> rfl

end Cert.KernelIdeal.Block

end
-- ==== Proof.KernelArrays.lean ====
/- The arrays that the kernel's region leaves, and every execution's three results: functions of the three argument
   arrays. -/
module

public import proofs.«01_k».proof.Proof.KernelBlock
public import Idealize.ShloMosaic.Lib.Pipeline.ValueKit
public import Idealize.ShloMosaic.Lib.Claim
public import Idealize.ShloMosaic.Lib.StableHlo.ReadAt

@[expose] public section

noncomputable section

namespace Cert.KernelIdeal.Arrays

open Idealize.ShloMosaic Idealize.ShloMosaic.TcCoe Idealize.SL.Sem
open Cert.KernelIdeal Cert.KernelIdeal.Gen Cert.KernelIdeal.Block Cert.Row

/-! ## The arrays as functions of the arguments -/

/-- The logits of query `q` of image `i`. -/
def logits (x : Vec Ideal S16x20000x92 .f32) (i : Fin 16) (q : Fin 20000) : Fin 92 → EReal := fun k => x (ix3 i q k)

/-- Every query's score. -/
def scoreArr (x : Vec Ideal S16x20000x92 .f32) : Vec Ideal S16x20000x1 .f32 := fun j =>
  share (logits x (j 0) (j 1)) (knownPeak (logits x (j 0) (j 1)))

/-- Every query's label. -/
def labelArr (x : Vec Ideal S16x20000x92 .f32) : Vec Ideal S16x20000x1 .i32 := fun j =>
  BitVec.ofNat 32 (firstPlace (known (logits x (j 0) (j 1)))).val

/-- Every query's box. -/
def boxArr (b : Vec Ideal S16x20000x4 .f32) (t : Vec Ideal S16x2 .i32) : Vec Ideal S16x20000x4 .f32 := fun j =>
  corner (fun l => b (ix3 (j 0) (j 1) l)) (j 2) * factor (t (ix2 (j 0) 0)) (t (ix2 (j 0) 1)) (j 2)

variable (m : (ℓ : Loc nD τ sig) → Buf (Elt Ideal) ℓ) (c : Dev nD)

/-! ## The windows' blocks -/

/-- The block index of the logits' window at every grid point. -/
theorem idx0 : ∀ t : Fin cfg0.N, win0_0.index t = ![t.val / 10, t.val % 10, 0] := by
  exact (by decide +kernel : ∀ t : Fin grid0.N, win0_0.index t = ![t.val / 10, t.val % 10, 0])

/-- The block index of the boxes' window. -/
theorem idx1 : ∀ t : Fin cfg0.N, win0_1.index t = ![t.val / 10, t.val % 10, 0] := by
  exact (by decide +kernel : ∀ t : Fin grid0.N, win0_1.index t = ![t.val / 10, t.val % 10, 0])

/-- The block index of the factors' window. -/
theorem idx2 : ∀ t : Fin cfg0.N, win0_2.index t = ![t.val / 10, 0, 0] := by
  exact (by decide +kernel : ∀ t : Fin grid0.N, win0_2.index t = ![t.val / 10, 0, 0])

/-- The block index of the scores' window. -/
theorem idx3 : ∀ t : Fin cfg0.N, win0_3.index t = ![t.val / 10, t.val % 10, 0] := by
  exact (by decide +kernel : ∀ t : Fin grid0.N, win0_3.index t = ![t.val / 10, t.val % 10, 0])

/-- The block index of the labels' window. -/
theorem idx4 : ∀ t : Fin cfg0.N, win0_4.index t = ![t.val / 10, t.val % 10, 0] := by
  exact (by decide +kernel : ∀ t : Fin grid0.N, win0_4.index t = ![t.val / 10, t.val % 10, 0])

/-- The block index of the window of the resulting boxes. -/
theorem idx5 : ∀ t : Fin cfg0.N, win0_5.index t = ![t.val / 10, t.val % 10, 0] := by
  exact (by decide +kernel : ∀ t : Fin grid0.N, win0_5.index t = ![t.val / 10, t.val % 10, 0])

/-- The stored scores of a block are the block of the scores' array. -/
theorem score_block (t : Fin cfg0.N) (y : S1x2000x1.Idx) : k0_pay5 (F := Ideal) (iblk m c 0 t) y
    = scoreArr (m ((c : Thread nD τ).loc main_arg0)) (((View.whole main_v11_0).slice (win0_3.rect t)).emb y) := by
  idx_vars y
  obtain rfl : y0 = 0 := Subsingleton.elim _ _
  obtain rfl : y2 = 0 := Subsingleton.elim _ _
  rw [score_at]
  have h : row (iblk m c 0 t) y1 = logits (m ((c : Thread nD τ).loc main_arg0))
      ((((View.whole main_v11_0).slice (win0_3.rect t)).emb (ix3 0 y1 0)) 0)
      ((((View.whole main_v11_0).slice (win0_3.rect t)).emb (ix3 0 y1 0)) 1) := by
    funext k
    unfold row logits
    blk_ext! [iblk, V, idx0 t, idx3 t]
  rw [h]
  rfl

/-- The stored labels of a block are the block of the labels' array. -/
theorem label_block (t : Fin cfg0.N) (y : S1x2000x1.Idx) : k0_pay6 (F := Ideal) (iblk m c 0 t) y
    = labelArr (m ((c : Thread nD τ).loc main_arg0)) (((View.whole main_v11_1).slice (win0_4.rect t)).emb y) := by
  idx_vars y
  obtain rfl : y0 = 0 := Subsingleton.elim _ _
  obtain rfl : y2 = 0 := Subsingleton.elim _ _
  rw [label_at _ _ (firstPlace_isFirst _)]
  have h : row (iblk m c 0 t) y1 = logits (m ((c : Thread nD τ).loc main_arg0))
      ((((View.whole main_v11_1).slice (win0_4.rect t)).emb (ix3 0 y1 0)) 0)
      ((((View.whole main_v11_1).slice (win0_4.rect t)).emb (ix3 0 y1 0)) 1) := by
    funext k
    unfold row logits
    blk_ext! [iblk, V, idx0 t, idx4 t]
  rw [h]
  rfl

/-- The region finds every image's factors in the fourth operand. -/
theorem factors (i : Fin 16) (k : Fin 4) : V m c main_v10 (ix3 i 0 k)
    = factor (m ((c : Thread nD τ).loc main_arg2) (ix2 i 0)) (m ((c : Thread nD τ).loc main_arg2) (ix2 i 1)) k := by
  unfold V V0
  after_reads_at
  fin_cases k
  · show StableHlo.upto [hostOps0].flatten (fun b => m (c, b)) 9 (Proc.tc.devRef main_v5) (ix2 i 0) = _
    after_reads_at
    rfl
  · show StableHlo.upto [hostOps0].flatten (fun b => m (c, b)) 9 (Proc.tc.devRef main_v6) (ix2 i 0) = _
    after_reads_at
    rfl
  · show StableHlo.upto [hostOps0].flatten (fun b => m (c, b)) 9 (Proc.tc.devRef main_v7) (ix2 i 0) = _
    after_reads_at
    rfl
  · show StableHlo.upto [hostOps0].flatten (fun b => m (c, b)) 9 (Proc.tc.devRef main_v8) (ix2 i 0) = _
    after_reads_at
    rfl

/-- The stored boxes of a block are the block of the boxes' array. -/
theorem box_block (t : Fin cfg0.N) (y : S1x2000x4.Idx) :
    k0_pay1 (F := Ideal) (k0_pay8 (iblk m c 1 t)) (k0_pay9 (iblk m c 1 t)) (k0_pay10 (iblk m c 1 t))
        (k0_pay11 (iblk m c 1 t)) (iblk m c 2 t) y
      = boxArr (m ((c : Thread nD τ).loc main_arg1)) (m ((c : Thread nD τ).loc main_arg2))
          (((View.whole main_v11_2).slice (win0_5.rect t)).emb y) := by
  idx_vars y
  obtain rfl : y0 = 0 := Subsingleton.elim _ _
  rw [box_at]
  have hk : (((View.whole main_v11_2).slice (win0_5.rect t)).emb (ix3 0 y1 y2)) 2 = y2 := by
    apply Fin.ext
    blk_simp [idx5 t]
  have hb : (fun l => iblk m c 1 t (ix3 0 y1 l)) = fun l => m ((c : Thread nD τ).loc main_arg1)
      (ix3 ((((View.whole main_v11_2).slice (win0_5.rect t)).emb (ix3 0 y1 y2)) 0)
        ((((View.whole main_v11_2).slice (win0_5.rect t)).emb (ix3 0 y1 y2)) 1) l) := by
    funext l
    blk_ext! [iblk, V, idx1 t, idx5 t]
  have hs : iblk m c 2 t (ix3 0 0 y2)
      = V m c main_v10 (ix3 ((((View.whole main_v11_2).slice (win0_5.rect t)).emb (ix3 0 y1 y2)) 0) 0 y2) := by
    unfold iblk
    generalize V m c = v
    blk_ext [idx2 t, idx5 t]
  rw [hb, hs]
  refine (congrArg (fun z : EReal => corner _ y2 * z) (factors m c _ y2)).trans ?_
  unfold boxArr
  rw [hk]

/-- The scores' array after the run. -/
theorem score_arr : (dats m 0 c).arrAt 3 (cfgs 0).N = scoreArr (m ((c : Thread nD τ).loc main_arg0)) := by
  refine (dats m 0 c).arrAt_eq_of_covers 3 _ (by decide +kernel) fun t hf y => ?_
  blk_simp
  rw [after0_3]
  frame_out
  exact score_block m c t y

/-- The labels' array after the run. -/
theorem label_arr : (dats m 0 c).arrAt 4 (cfgs 0).N = labelArr (m ((c : Thread nD τ).loc main_arg0)) := by
  refine (dats m 0 c).arrAt_eq_of_covers 4 _ (by decide +kernel) fun t hf y => ?_
  blk_simp
  rw [after0_4]
  frame_out
  exact label_block m c t y

/-- The boxes' array after the run. -/
theorem box_arr : (dats m 0 c).arrAt 5 (cfgs 0).N
    = boxArr (m ((c : Thread nD τ).loc main_arg1)) (m ((c : Thread nD τ).loc main_arg2)) := by
  refine (dats m 0 c).arrAt_eq_of_covers 5 _ (by decide +kernel) fun t hf y => ?_
  blk_simp
  rw [after0_5]
  frame_out
  exact box_block m c t y

/-! ## The reshapes after the region, and the run -/

/-- An array with a last axis of extent one, reshaped without that axis. -/
theorem dropped {α : Type} (x : S16x20000x1.Idx → α) :
    shapeCast S16x20000 x shapeCasts_S16x20000x1_S16x20000 = fun j => x (ix3 (j 0) (j 1) 0) := by
  funext j
  idx_vars j
  pointwise

/-- The first result after the run. -/
theorem tail_score : Pipeline.afterTail₀ cfgs (dats m) 0 (V0 m) [hostOps1] c main_v12
    = fun j => scoreArr (m ((c : Thread nD τ).loc main_arg0)) (ix3 (j 0) (j 1) 0) := by
  unfold Pipeline.afterTail₀
  rw [show [hostOps1].flatten = (hostOps1 : List (HloOp τ sig (Elt Ideal))) from rfl]
  after_results_simp
  have h : Pipeline.withArrays (cfgs 0).spec c (V0 m c) (fun w => (dats m 0 c).arrAt w (cfgs 0).N)
      (Proc.tc.devRef main_v11_0) = scoreArr (m ((c : Thread nD τ).loc main_arg0)) :=
    (Pipeline.withArrays_arr (cfgs 0).spec (by decide) c _ _ 3).trans (score_arr m c)
  exact (congrArg (fun x : FVec Ideal S16x20000x1 .f32 => shapeCast S16x20000 x shapeCasts_S16x20000x1_S16x20000) h).trans
    (dropped _)

/-- The second result after the run. -/
theorem tail_label : Pipeline.afterTail₀ cfgs (dats m) 0 (V0 m) [hostOps1] c main_v13
    = fun j => labelArr (m ((c : Thread nD τ).loc main_arg0)) (ix3 (j 0) (j 1) 0) := by
  unfold Pipeline.afterTail₀
  rw [show [hostOps1].flatten = (hostOps1 : List (HloOp τ sig (Elt Ideal))) from rfl]
  after_results_simp
  have h : Pipeline.withArrays (cfgs 0).spec c (V0 m c) (fun w => (dats m 0 c).arrAt w (cfgs 0).N)
      (Proc.tc.devRef main_v11_1) = labelArr (m ((c : Thread nD τ).loc main_arg0)) :=
    (Pipeline.withArrays_arr (cfgs 0).spec (by decide) c _ _ 4).trans (label_arr m c)
  exact (congrArg (fun x : IVec S16x20000x1 32 => shapeCast S16x20000 x shapeCasts_S16x20000x1_S16x20000) h).trans
    (dropped _)

/-- Every execution of the kernel program ends with these three results, the arguments unchanged. -/
theorem run (g : Dev nD → PrngReg) :
    θ_run defs (onTc (τ := τ) (main (F := Ideal))) ⟨m, fun _ => 0, g⟩ fun r => ∀ c : Dev nD,
      r.2.mem ((c.tc : Thread nD τ).loc main_v12)
          = (fun j => scoreArr (m ((c.tc : Thread nD τ).loc main_arg0)) (ix3 (j 0) (j 1) 0))
        ∧ r.2.mem ((c.tc : Thread nD τ).loc main_v13)
          = (fun j => labelArr (m ((c.tc : Thread nD τ).loc main_arg0)) (ix3 (j 0) (j 1) 0))
        ∧ r.2.mem ((c.tc : Thread nD τ).loc main_v11_2)
          = boxArr (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  run_from Cert.KernelIdeal.Gen.run_main m g & Cert.KernelIdeal.Gen.unchanged m g
  · exact tail_score m c
  · exact tail_label m c
  · exact box_arr m c

end Cert.KernelIdeal.Arrays

end
-- ==== Proof.Values.lean ====
/- The reference's three results and the kernel's are the same arrays. -/
module

public import proofs.«01_k».proof.Proof.RefRead
public import proofs.«01_k».proof.Proof.KernelArrays

@[expose] public section

noncomputable section

namespace Cert.Values

open Idealize.ShloMosaic
open Cert.ReferenceIdeal Cert.ReferenceIdeal.Run Cert.ReferenceIdeal.Read Cert.KernelIdeal.Arrays Cert.Row

/-- Two arrays over images and queries are equal when they agree at every query. -/
theorem ext2 {α : Type} {f g : S16x20000.Idx → α} (h : ∀ (i : Fin 16) (q : Fin 20000), f (ix2 i q) = g (ix2 i q)) : f = g :=
  funext fun j => by
    rw [eq_ix2 j]
    exact h _ _

/-- Two arrays over images, queries and box corners are equal when they agree at every corner. -/
theorem ext3 {α : Type} {f g : S16x20000x4.Idx → α}
    (h : ∀ (i : Fin 16) (q : Fin 20000) (k : Fin 4), f (ix3 i q k) = g (ix3 i q k)) : f = g :=
  funext fun j => by
    rw [eq_ix3 j]
    exact h _ _ _

/-- The scores: on every input, the reference's largest probability among the known classes is the kernel's quotient. -/
theorem scores_eq (x : FVec Ideal S16x20000x92 .f32) :
    scores x = fun j => scoreArr x (ix3 (j 0) (j 1) 0) :=
  ext2 fun i q => scores_at x i q

/-- The labels: with no logit at plus infinity, the first known class of the largest probability is the first of the
    largest logit. -/
theorem labels_eq (x : FVec Ideal S16x20000x92 .f32) (hx : ∀ j : S16x20000x92.Idx, (x j : EReal) < ⊤) :
    labels x = fun j => labelArr x (ix3 (j 0) (j 1) 0) :=
  ext2 fun i q => labels_at x i q (isFirst_share (fun k => hx (ix3 i q k)) (firstPlace_isFirst (Row.known (row x i q))))

/-- The boxes: on every input, the same corners times the same image sizes. -/
theorem boxes_eq (b : FVec Ideal S16x20000x4 .f32) (t : IVec S16x2 32) : boxes b t = boxArr b t :=
  ext3 fun i q k => boxes_at b t i q k

end Cert.Values

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Precondition
public import proofs.«01_k».proof.Proof.Values
public import Idealize.ShloMosaic.Adequacy
public import Idealize.ShloMosaic.Init

@[expose] public section

noncomputable section

namespace Cert.Proof

open Idealize.ShloMosaic Idealize.ShloMosaic.TcCoe Idealize.SL.Sem

/-- The reference terminates without a fault, its arguments end unchanged, and every counter ends at zero: it has none. -/
theorem reference_frame : Cert.quiescent_ReferenceIdeal := fun m g _ =>
  θ_run_mono (Cert.ReferenceIdeal.Run.run m g) fun _ h =>
    ⟨fun c => ⟨(h c).2.2.2.1, (h c).2.2.2.2.1, (h c).2.2.2.2.2⟩, sem_eq_zero_of_no_sems (by decide) _⟩

/-- The same from the memories where the precondition holds. -/
theorem reference_frame_pre : Cert.quiescent_ReferenceIdeal_pre_no_infinite_logit := fun m g _ =>
  reference_frame m g trivial

/-- From equal arguments with no logit at plus infinity, the kernel and the reference end with equal scores, labels and
    boxes. -/
theorem algebraic : Cert.algebraic_KernelIdeal_ReferenceIdeal_pre_no_infinite_logit := fun m g m' g' hpre hargs => by
  refine ⟨_, _, _, Cert.KernelIdeal.Arrays.run m g, ?_⟩
  refine θ_run_mono (Cert.ReferenceIdeal.Run.run m' g') fun r h c => ?_
  obtain ⟨h0, h1, h2, hr⟩ := h c
  obtain ⟨a0, a1, a2⟩ := hargs c
  refine ⟨h0.trans ?_, h1.trans ?_, h2.trans ?_, hr⟩
  · rw [a0]
    exact Cert.Values.scores_eq _
  · rw [a0]
    exact Cert.Values.labels_eq _ (Cert.Precondition.logit_lt _ _ _ (hpre c))
  · rw [a1, a2]
    exact Cert.Values.boxes_eq _ _

/-- Everything the certificate claims. -/
theorem claim : Cert.Claim :=
  ⟨Cert.Kernel.Gen.facts, Cert.KernelIdeal.Gen.facts, Cert.ReferenceIdeal.Gen.facts, Cert.Precondition.facts,
    fun m g _ => Cert.Kernel.Gen.frame m g,
    fun m g _ => Cert.KernelIdeal.Gen.frame m g,
    fun m g _ => Cert.KernelIdeal.Gen.frame m g,
    reference_frame, reference_frame_pre, trivial, algebraic⟩

end Cert.Proof

end
